-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_experts_exist [hPre_experts_exist : Cert.Pre_experts_exist.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_exist [hPre_experts_exist : Cert.Pre_experts_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_experts_exist [hKernelIdeal : Cert.KernelIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_exist m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_experts_exist [hReferenceIdeal : Cert.ReferenceIdeal.Facts] [hPre_experts_exist : Cert.Pre_experts_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_experts_exist [hKernelIdeal : Cert.KernelIdeal.Facts] [hReferenceIdeal : Cert.ReferenceIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_exist m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_experts_exist : Cert.Pre_experts_exist.Facts),
    quiescent_Kernel (hKernel := hKernel)
    ∧ quiescent_KernelIdeal (hKernelIdeal := hKernelIdeal)
    ∧ quiescent_KernelIdeal_pre_experts_exist (hKernelIdeal := hKernelIdeal) (hPre_experts_exist := hPre_experts_exist)
    ∧ quiescent_ReferenceIdeal (hReferenceIdeal := hReferenceIdeal)
    ∧ quiescent_ReferenceIdeal_pre_experts_exist (hReferenceIdeal := hReferenceIdeal) (hPre_experts_exist := hPre_experts_exist)
    ∧ preserves_Kernel_KernelIdeal
    ∧ algebraic_KernelIdeal_ReferenceIdeal_pre_experts_exist (hKernelIdeal := hKernelIdeal) (hReferenceIdeal := hReferenceIdeal) (hPre_experts_exist := hPre_experts_exist)
-- ==== Pre_experts_exist.lean ====
abbrev S64x1024 : Shape := ⟨2, ![64, 1024]⟩
abbrev S64 : Shape := ⟨1, ![64]⟩
abbrev S8x4096x1024 : Shape := ⟨3, ![8, 4096, 1024]⟩
abbrev S8x1024x2048 : Shape := ⟨3, ![8, 1024, 2048]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S64x1024 .f32) (main_arg1 : IVec S64 32) (main_arg2 : FVec F S8x4096x1024 .f32) (main_arg3 : FVec F S8x1024x2048 .f32) : IVec S64 1 :=
  let main_c : IVec S_ 32 := constantI S_ 32 0#32
  let main_v0 : IVec S64 32 := broadcastInDim S64 ![] bcast_S_S64 main_c
  let main_v1 : IVec S64 1 := cmpi .sge main_arg1 main_v0
  let main_c_0 : IVec S_ 32 := constantI S_ 32 8#32
  let main_v2 : IVec S64 32 := broadcastInDim S64 ![] bcast_S_S64 main_c_0
  let main_v3 : IVec S64 1 := cmpi .slt main_arg1 main_v2
  let main_v4 : IVec S64 1 := andi main_v1 main_v3
  main_v4
-- ==== Kernel.lean ====
abbrev S64x1024 : Shape := ⟨2, ![64, 1024]⟩
abbrev S64 : Shape := ⟨1, ![64]⟩
abbrev S8x4096x1024 : Shape := ⟨3, ![8, 4096, 1024]⟩
abbrev S8x1024x2048 : Shape := ⟨3, ![8, 1024, 2048]⟩
abbrev S8x2x2048x1024 : Shape := ⟨4, ![8, 2, 2048, 1024]⟩
abbrev S64x1 : Shape := ⟨2, ![64, 1]⟩
abbrev S1x2x1024x1024 : Shape := ⟨4, ![1, 2, 1024, 1024]⟩
abbrev S1x1024x1024 : Shape := ⟨3, ![1, 1024, 1024]⟩
abbrev S1x1x1024x1024 : Shape := ⟨4, ![1, 1, 1024, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S64x1024, .f32⟩
  | .hbm, ⟨1, _⟩ => ⟨S64, .i32⟩
  | .hbm, ⟨2, _⟩ => ⟨S8x4096x1024, .f32⟩
  | .hbm, ⟨3, _⟩ => ⟨S8x1024x2048, .f32⟩
  | .hbm, ⟨4, _⟩ => ⟨S8x2x2048x1024, .f32⟩
  | .hbm, ⟨5, _⟩ => ⟨S64x1, .i32⟩
  | .hbm, ⟨6, _⟩ => ⟨S64x1024, .f32⟩
  | .local _ .vmem, ⟨0, _⟩ => ⟨S64x1, .i32⟩
  | .local _ .vmem, ⟨1, _⟩ => ⟨S64x1024, .f32⟩
  | .local _ .vmem, ⟨2, _⟩ => ⟨S1x2x1024x1024, .f32⟩
  | .local _ .vmem, ⟨3, _⟩ => ⟨S1x2x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S64x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let arg1 : BitVec 32 := BitVec.ofNat 32 (i 1).val
  let c0_i32_15 : BitVec 32 := 0#32
  let v22 : BitVec 1 := Scalar.cmpi .eq arg1 c0_i32_15
  let v23 : BitVec 1 := Scalar.andi v21 v22
  let v24 : BitVec 32 := Scalar.extui v23
  let c0_i32_16 : BitVec 32 := 0#32
  let v25 : BitVec 1 := Scalar.cmpi .ne v24 c0_i32_16
  v25

def k0_cond2 (i : grid0.Coords) : BitVec 1 :=
  let arg0 : BitVec 32 := BitVec.ofNat 32 (i 0).val
  let c0_i32_17 : BitVec 32 := 0#32
  let v26 : BitVec 1 := Scalar.cmpi .ne arg0 c0_i32_17
  let arg1 : BitVec 32 := BitVec.ofNat 32 (i 1).val
  let c0_i32_18 : BitVec 32 := 0#32
  let v27 : BitVec 1 := Scalar.cmpi .ne arg1 c0_i32_18
  let v28 : BitVec 1 := Scalar.ori v26 v27
  let v29 : BitVec 32 := Scalar.extui v28
  let c0_i32_19 : BitVec 32 := 0#32
  let v30 : BitVec 1 := Scalar.cmpi .ne v29 c0_i32_19
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S64x1024 : Shape := ⟨2, ![64, 1024]⟩
abbrev S64 : Shape := ⟨1, ![64]⟩
abbrev S8x4096x1024 : Shape := ⟨3, ![8, 4096, 1024]⟩
abbrev S8x1024x2048 : Shape := ⟨3, ![8, 1024, 2048]⟩
abbrev S_ : Shape := ⟨0, ![]⟩
abbrev S64x1 : Shape := ⟨2, ![64, 1]⟩
abbrev S1 : Shape := ⟨1, ![1]⟩
abbrev S1x1 : Shape := ⟨2, ![1, 1]⟩
abbrev S64x4096x1024 : Shape := ⟨3, ![64, 4096, 1024]⟩
abbrev S64x1024x2048 : Shape := ⟨3, ![64, 1024, 2048]⟩
abbrev S64x4096 : Shape := ⟨2, ![64, 4096]⟩
abbrev S64x2048 : Shape := ⟨2, ![64, 2048]⟩

abbrev nBuf : Space → Nat
  | .hbm => 64
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64, .i32⟩
  | .hbm, ⟨2, _⟩ => ⟨S8x4096x1024, .f32⟩
  | .hbm, ⟨3, _⟩ => ⟨S8x1024x2048, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S1, .i32⟩
  | .hbm, ⟨13, _⟩ => ⟨S_, .i32⟩
  | .hbm, ⟨14, _⟩ => ⟨S64x1, .i32⟩
  | .hbm, ⟨15, _⟩ => ⟨S64x1, .i1⟩
  | .hbm, ⟨16, _⟩ => ⟨S1x1, .i32⟩
  | .hbm, ⟨17, _⟩ => ⟨S64x1, .i32⟩
  | .hbm, ⟨18, _⟩ => ⟨S64x1, .i1⟩
  | .hbm, ⟨19, _⟩ => ⟨S64x1, .i1⟩
  | .hbm, ⟨20, _⟩ => ⟨S_, .i1⟩
  | .hbm, ⟨21, _⟩ => ⟨S64, .i1⟩
  | .hbm, ⟨22, _⟩ => ⟨S64x4096x1024, .f32⟩
  | .hbm, ⟨23, _⟩ => ⟨S64x4096x1024, .i1⟩
  | .hbm, ⟨24, _⟩ => ⟨S_, .f32⟩
  | .hbm, ⟨25, _⟩ => ⟨S64x4096x1024, .f32⟩
  | .hbm, ⟨26, _⟩ => ⟨S64x4096x1024, .f32⟩
  | .hbm, ⟨27, _⟩ => ⟨S_, .i32⟩
  | .hbm, ⟨28, _⟩ => ⟨S64, .i32⟩
  | .hbm, ⟨29, _⟩ => ⟨S64, .i1⟩
  | .hbm, ⟨30, _⟩ => ⟨S_, .i32⟩
  | .hbm, ⟨31, _⟩ => ⟨S64, .i32⟩
  | .hbm, ⟨32, _⟩ => ⟨S64, .i32⟩
  | .hbm, ⟨33, _⟩ => ⟨S64, .i32⟩
  | .hbm, ⟨34, _⟩ => ⟨S64x1, .i32⟩
  | .hbm, ⟨35, _⟩ => ⟨S1, .i32⟩
  | .hbm, ⟨36, _⟩ => ⟨S_, .i32⟩
  | .hbm, ⟨37, _⟩ => ⟨S64x1, .i32⟩
  | .hbm, ⟨38, _⟩ => ⟨S64x1, .i1⟩
  | .hbm, ⟨39, _⟩ => ⟨S1x1, .i32⟩
  | .hbm, ⟨40, _⟩ => ⟨S64x1, .i32⟩
  | .hbm, ⟨41, _⟩ => ⟨S64x1, .i1⟩
  | .hbm, ⟨42, _⟩ => ⟨S64x1, .i1⟩
  | .hbm, ⟨43, _⟩ => ⟨S_, .i1⟩
  | .hbm, ⟨44, _⟩ => ⟨S64, .i1⟩
  | .hbm, ⟨45, _⟩ => ⟨S64x1024x2048, .f32⟩
  | .hbm, ⟨46, _⟩ => ⟨S64x1024x2048, .i1⟩
  | .hbm, ⟨47, _⟩ => ⟨S_, .f32⟩
  | .hbm, ⟨48, _⟩ => ⟨S64x1024x2048, .f32⟩
  | .hbm, ⟨49, _⟩ => ⟨S64x1024x2048, .f32⟩
  | .hbm, ⟨50, _⟩ => ⟨S64x4096, .f32⟩
  | .hbm, ⟨51, _⟩ => ⟨S64x2048, .f32⟩
  | .hbm, ⟨52, _⟩ => ⟨S64x2048, .f32⟩
  | .hbm, ⟨53, _⟩ => ⟨S64x2048, .f32⟩
  | .hbm, ⟨54, _⟩ => ⟨S64x2048, .f32⟩
  | .hbm, ⟨55, _⟩ => ⟨S_, .f32⟩
  | .hbm, ⟨56, _⟩ => ⟨S64x2048, .f32⟩
  | .hbm, ⟨57, _⟩ => ⟨S64x2048, .f32⟩
  | .hbm, ⟨58, _⟩ => ⟨S_, .f32⟩
  | .hbm, ⟨59, _⟩ => ⟨S64x2048, .f32⟩
  | .hbm, ⟨60, _⟩ => ⟨S64x2048, .f32⟩
  | .hbm, ⟨61, _⟩ => ⟨S64x2048, .f32⟩
  | .hbm, ⟨62, _⟩ => ⟨S64x2048, .f32⟩
  | .hbm, ⟨63, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_call2_v0 : Ref sig .tc := ⟨.hbm, 53, rfl⟩
abbrev main_call2_v1 : Ref sig .tc := ⟨.hbm, 54, rfl⟩
abbrev main_call2_cst : Ref sig .tc := ⟨.hbm, 55, rfl⟩
abbrev main_call2_v2 : Ref sig .tc := ⟨.hbm, 56, rfl⟩
abbrev main_call2_v3 : Ref sig .tc := ⟨.hbm, 57, rfl⟩
abbrev main_call2_cst_0 : Ref sig .tc := ⟨.hbm, 58, rfl⟩
abbrev main_call2_v4 : Ref sig .tc := ⟨.hbm, 59, rfl⟩
abbrev main_call2_v5 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩

abbrev nD : Nat := 1
abbrev τ : Topo := Topo.v7x

variable {F : FTy → Type} [FloatOps F]
-- ==== Proof.Spec.lean ====
/-
  The layer as plain arithmetic on the extended reals: what one hidden unit contributes to one entry of the
  output, and a token's output as the sum of its expert's 2048 units.
-/
module

public import Idealize.ShloMosaic.Lib.Pointwise

@[expose] public section

noncomputable section

namespace Cert.Moe

open Idealize.ShloMosaic

/-- What one hidden unit adds to an output entry: the activations `x` against the unit's gate row `g`, through the
    SiLU `z * logistic z`, times `x` against its up row `u`, times its weight `w` in the down projection. -/
def unit (x g u : Fin 1024 → EReal) (w : EReal) : EReal :=
  (∑ k, x k * g k) * Ideal.logistic (∑ k, x k * g k) * (∑ k, x k * u k) * w

/-- Activations multiplied by one are the activations. -/
theorem unit_one (x g u : Fin 1024 → EReal) (w : EReal) : unit (fun k => x k * 1) g u w = unit x g u w := by
  simp only [unit, mul_one]

/-- Activations multiplied by zero make the unit contribute nothing, whatever its weights are. -/
theorem unit_zero (x g u : Fin 1024 → EReal) (w : EReal) : unit (fun k => x k * 0) g u w = 0 := by
  simp only [unit, mul_zero, zero_mul, Finset.sum_const_zero]

/-- Row `f` of half `p` (0 the gate, 1 the up projection) of an expert's stacked rows. -/
abbrev halfRow (p : Fin 2) (f : Fin 2048) : Fin 4096 := ⟨2048 * p.val + f.val, by omega⟩

/-- Entry `(r, d)` of the output of a token sent to expert `e`: the sum over the expert's 2048 hidden units, from the
    activations `x`, the stacked gate and up rows `gu` and the down projection `dn`. -/
def expertOut (x : Fin 64 → Fin 1024 → EReal) (gu : Fin 8 → Fin 4096 → Fin 1024 → EReal)
    (dn : Fin 8 → Fin 1024 → Fin 2048 → EReal) (e : Fin 8) (r : Fin 64) (d : Fin 1024) : EReal :=
  ∑ f : Fin 2048, unit (x r) (gu e (halfRow 0 f)) (gu e (halfRow 1 f)) (dn e d f)

/-- Hidden unit `f` of tile `p` among an expert's 2048. -/
abbrev tileUnit (p : Fin 2) (f : Fin 1024) : Fin 2048 := ⟨1024 * p.val + f.val, by omega⟩

/-- What tile `p` of expert `e` adds to entry `(r, d)` when the activations are multiplied by `k`. -/
def tileOut (x : Fin 64 → Fin 1024 → EReal) (gu : Fin 8 → Fin 4096 → Fin 1024 → EReal)
    (dn : Fin 8 → Fin 1024 → Fin 2048 → EReal) (k : EReal) (e : Fin 8) (p : Fin 2) (r : Fin 64) (d : Fin 1024) : EReal :=
  ∑ f : Fin 1024, unit (fun j => x r j * k) (gu e (halfRow 0 (tileUnit p f))) (gu e (halfRow 1 (tileUnit p f)))
    (dn e d (tileUnit p f))

/-- A tile under the multiplier zero adds nothing. -/
theorem tileOut_zero (x : Fin 64 → Fin 1024 → EReal) (gu : Fin 8 → Fin 4096 → Fin 1024 → EReal)
    (dn : Fin 8 → Fin 1024 → Fin 2048 → EReal) (e : Fin 8) (p : Fin 2) (r : Fin 64) (d : Fin 1024) :
    tileOut x gu dn 0 e p r d = 0 := by
  simp only [tileOut, unit_zero, Finset.sum_const_zero]

/-- An expert's two tiles under the multiplier one add up to its output. -/
theorem tileOut_one (x : Fin 64 → Fin 1024 → EReal) (gu : Fin 8 → Fin 4096 → Fin 1024 → EReal)
    (dn : Fin 8 → Fin 1024 → Fin 2048 → EReal) (e : Fin 8) (r : Fin 64) (d : Fin 1024) :
    tileOut x gu dn 1 e 0 r d + tileOut x gu dn 1 e 1 r d = expertOut x gu dn e r d := by
  unfold expertOut
  rw [Fin.sum_univ_two_halves 1024 1024 rfl]
  simp only [tileOut, unit_one]
  congr 1

/-- Grid point `n`'s expert and tile, the points being numbered expert by expert. -/
abbrev expertAt (n : Nat) : Fin 8 := ⟨n / 2 % 8, Nat.mod_lt _ (by decide)⟩

abbrev tileAt (n : Nat) : Fin 2 := ⟨n % 2, Nat.mod_lt _ (by decide)⟩

/-- Added over all sixteen points, each with the multiplier that is one at the token's own expert and zero at the
    others, the tiles give the token's expert's output. -/
theorem sum_tiles (x : Fin 64 → Fin 1024 → EReal) (gu : Fin 8 → Fin 4096 → Fin 1024 → EReal)
    (dn : Fin 8 → Fin 1024 → Fin 2048 → EReal) (e : Fin 8) (r : Fin 64) (d : Fin 1024) :
    ∑ n ∈ Finset.range 16, tileOut x gu dn (if e = expertAt n then 1 else 0) (expertAt n) (tileAt n) r d
      = expertOut x gu dn e r d := by
  rw [← tileOut_one]
  have hs : ({2 * e.val, 2 * e.val + 1} : Finset Nat) ⊆ Finset.range 16 := by
    intro n hn
    simp only [Finset.mem_insert, Finset.mem_singleton] at hn
    have := e.isLt
    exact Finset.mem_range.2 (by omega)
  rw [← Finset.sum_subset hs]
  · rw [Finset.sum_pair (by omega)]
    have h0 : expertAt (2 * e.val) = e := Fin.ext (by show 2 * e.val / 2 % 8 = e.val; have := e.isLt; omega)
    have h1 : expertAt (2 * e.val + 1) = e := Fin.ext (by show (2 * e.val + 1) / 2 % 8 = e.val; have := e.isLt; omega)
    have t0 : tileAt (2 * e.val) = 0 := Fin.ext (by show 2 * e.val % 2 = 0; omega)
    have t1 : tileAt (2 * e.val + 1) = 1 := Fin.ext (by show (2 * e.val + 1) % 2 = 1; omega)
    rw [h0, h1, t0, t1, if_pos rfl]
  · intro n hn hne
    rw [if_neg, tileOut_zero]
    intro he
    have hv : e.val = n / 2 % 8 := congrArg Fin.val he
    have := Finset.mem_range.1 hn
    simp only [Finset.mem_insert, Finset.mem_singleton] at hne
    omega

end Cert.Moe

end
-- ==== Proof.Block.lean ====
/-
  What one grid point of the kernel leaves in its output block, as a value.

  A grid point holds one expert's tile of 1024 hidden units. Its body loads the token table, the activations,
  the tile's gate rows and up rows (two parts of one block) and the tile's columns of the down projection. The
  first point stores the tile's product; every later point adds its own to what the block holds.
-/
module

public import proofs.«01_k».proof.Proof.Gen.KernelIdeal.Value
public import proofs.«01_k».proof.Proof.Spec

@[expose] public section

set_option maxRecDepth 16384

noncomputable section

namespace Cert.KernelIdeal.Value

open Cert.KernelIdeal Cert.KernelIdeal.Gen Idealize.ShloMosaic Idealize.ShloMosaic.TcCoe Idealize.SL.Sem

section Words

variable {F : FTy → Type} [FloatOps F]

theorem zero2 : (![0, 0] : Fin 2 → Nat) = fun _ => 0 := funext fun a => by fin_cases a <;> rfl

theorem zero3 : (![0, 0, 0] : Fin 3 → Nat) = fun _ => 0 := funext fun a => by fin_cases a <;> rfl

/-- The product one point computes from its blocks: the token table `b0`, the activations `b1`, the tile's gate and
    up rows `b2`, and the tile's columns of the down projection `b3`. -/
def tile (i : grid0.Coords) (b0 : Vec F S64x1 .i32) (b1 : Vec F S64x1024 .f32) (b2 : Vec F S1x2x1024x1024 .f32)
    (b3 : Vec F S1x1024x1024 .f32) : Vec F S64x1024 .f32 :=
  k0_pay1 i b0 b1
    (View.ld b2 (Rect.unit (s := S1x2x1024x1024) ![0, 0, 0, 0] S1x1x1024x1024.size inb_S1x2x1024x1024_S1x1x1024x1024_0_0_0_0))
    (View.ld b2 (Rect.unit (s := S1x2x1024x1024) ![0, 1, 0, 0] S1x1x1024x1024.size inb_S1x2x1024x1024_S1x1x1024x1024_0_1_0_0))
    b3

/-- The first point leaves its product in the output block. -/
theorem out_first (c : Dev nD) (i : grid0.Coords) (a2 : Memref sig .tc .vmem S64x1 .i32) (h2 : a2.IsWhole)
    (a3 : Memref sig .tc .vmem S64x1024 .f32) (h3 : a3.IsWhole) (a4 : Memref sig .tc .vmem S1x2x1024x1024 .f32) (h4 : a4.IsWhole)
    (a5 : Memref sig .tc .vmem S1x1024x1024 .f32) (h5 : a5.IsWhole) (a6 : Memref sig .tc .vmem S64x1024 .f32) (h6 : a6.IsWhole)
    (hc0 : cond0_0 i) (hc1 : ¬cond0_1 i) (b0 : Vec F S64x1 .i32) (b1 : Vec F S64x1024 .f32) (b2 : Vec F S1x2x1024x1024 .f32)
    (b3 : Vec F S1x1024x1024 .f32) :
    out0_A_4 c i a2 h2 a3 h3 a4 h4 a5 h5 a6 h6 hc0 hc1 b0 b1 b2 b3 = tile i b0 b1 b2 b3 := by
  unfold out0_A_4
  rw [View.read_writes_eq_canon _ _ _ (cover0_A_4 c i a2 h2 a3 h3 a4 h4 a5 h5 a6 h6 hc0 hc1 b0 b1 b2 b3)]
  unfold kernelRun0_A
  dsimp only
  rw [View.canon_unit_zero zero2]
  unfold tile
  simp only [View.readAt_eq_ld, h2.read_unread, h3.read_unread, h4.read_unread, h5.read_unread, View.ld_unit_zero (S := S64x1) zero2,
    View.ld_unit_zero (S := S64x1024) zero2, View.ld_unit_zero (S := S1x1024x1024) zero3]

/-- A later point adds its product to what the output block holds. -/
theorem out_later (c : Dev nD) (i : grid0.Coords) (a2 : Memref sig .tc .vmem S64x1 .i32) (h2 : a2.IsWhole)
    (a3 : Memref sig .tc .vmem S64x1024 .f32) (h3 : a3.IsWhole) (a4 : Memref sig .tc .vmem S1x2x1024x1024 .f32) (h4 : a4.IsWhole)
    (a5 : Memref sig .tc .vmem S1x1024x1024 .f32) (h5 : a5.IsWhole) (a6 : Memref sig .tc .vmem S64x1024 .f32) (h6 : a6.IsWhole)
    (hc0 : ¬cond0_0 i) (hc1 : cond0_1 i) (b0 : Vec F S64x1 .i32) (b1 : Vec F S64x1024 .f32) (b2 : Vec F S1x2x1024x1024 .f32)
    (b3 : Vec F S1x1024x1024 .f32) (o : Vec F S64x1024 .f32) :
    out0_B_4 c i a2 h2 a3 h3 a4 h4 a5 h5 a6 h6 hc0 hc1 b0 b1 b2 b3 o = addf o (tile i b0 b1 b2 b3) := by
  unfold out0_B_4
  rw [View.read_writes_eq_canon _ _ _ (cover0_B_4 c i a2 h2 a3 h3 a4 h4 a5 h5 a6 h6 hc0 hc1 b0 b1 b2 b3 o)]
  unfold kernelRun0_B
  dsimp only
  rw [View.canon_unit_zero zero2]
  unfold tile k0_pay2
  simp only [View.readAt_eq_ld, h2.read_unread, h3.read_unread, h4.read_unread, h5.read_unread, h6.read_unread,
    View.ld_unit_zero (S := S64x1) zero2, View.ld_unit_zero (S := S64x1024) zero2, View.ld_unit_zero (S := S1x1024x1024) zero3,
    shapeCast_self]

end Words

/-- The multiplier of row `r` at a point of expert `e`: the comparison's bit read as a number. -/
abbrev mult (b0 : Vec Ideal S64x1 .i32) (e : Nat) (r : Fin 64) : EReal :=
  if b0 (ix2 r 0) = BitVec.ofNat 32 e then 1 else 0

/-- The bit of an equality of words, widened and converted, is one where they are equal and zero where they are not. -/
theorem sitofp_eq_bit (a b : BitVec 32) :
    (FloatOps.sitofp .f32 (BitVec.setWidth 32 (IntOp.cmpi .eq a b)) : Ideal .f32) = if a = b then (1 : EReal) else 0 := by
  by_cases h : a = b
  · rw [if_pos h, h]
    have : BitVec.setWidth 32 (IntOp.cmpi .eq b b) = 1#32 := by simp [IntOp.cmpi]
    rw [this]
    show (((1#32 : BitVec 32).toInt : ℝ) : EReal) = 1
    simp
  · rw [if_neg h]
    have : BitVec.setWidth 32 (IntOp.cmpi .eq a b) = 0#32 := by simp [IntOp.cmpi, beq_eq_false_iff_ne.mpr h]
    rw [this]
    show (((0#32 : BitVec 32).toInt : ℝ) : EReal) = 0
    simp

/-- The product at row `r`, column `d`, over the extended reals: the sum over the tile's hidden units of what each
    contributes, from the row's activations times its multiplier. -/
theorem tile_apply (i : grid0.Coords) (b0 : Vec Ideal S64x1 .i32) (b1 : Vec Ideal S64x1024 .f32) (b2 : Vec Ideal S1x2x1024x1024 .f32)
    (b3 : Vec Ideal S1x1024x1024 .f32) (r : Fin 64) (d : Fin 1024) :
    tile i b0 b1 b2 b3 (ix2 r d)
      = ∑ f : Fin 1024, Moe.unit (fun k => b1 (ix2 r k) * mult b0 (i 0).val r) (fun k => b2 (ix4 0 0 f k))
          (fun k => b2 (ix4 0 1 f k)) (b3 (ix3 0 d f)) := by
  pointwise [tile, k0_pay1]
  simp only [sitofp_eq_bit]
  rfl

end Cert.KernelIdeal.Value

end
-- ==== Proof.Array.lean ====
/-
  What the kernel's result array holds after its run, entry by entry, in terms of the arguments.

  The output block is the whole result array: it is stored by the first point, added to by the fifteen after it, and
  written back once, after the last.
-/
module

public import proofs.«01_k».proof.Proof.Block

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The arguments, by their coordinates -/

/-- Token `r`'s activations. -/
abbrev argX (c : Dev nD) (r : Fin 64) (k : Fin 1024) : EReal := (m ((c : Thread nD τ).loc main_arg0) : Vec Ideal S64x1024 .f32) (ix2 r k)

/-- Token `r`'s expert, as a word. -/
abbrev argIdx (c : Dev nD) (r : Fin 64) : BitVec 32 := (m ((c : Thread nD τ).loc main_arg1) : Vec Ideal S64 .i32) (ix1 r)

/-- The experts' stacked gate and up rows. -/
abbrev argGU (c : Dev nD) (e : Fin 8) (f : Fin 4096) (k : Fin 1024) : EReal :=
  (m ((c : Thread nD τ).loc main_arg2) : Vec Ideal S8x4096x1024 .f32) (ix3 e f k)

/-- The experts' down projections. -/
abbrev argDn (c : Dev nD) (e : Fin 8) (d : Fin 1024) (f : Fin 2048) : EReal :=
  (m ((c : Thread nD τ).loc main_arg3) : Vec Ideal S8x1024x2048 .f32) (ix3 e d f)

/-! ## The blocks a point reads -/

/-- The token table as the kernel's region finds it: the argument as a column. -/
theorem V_table (c : Dev nD) : V m c main_call0_v1 = shapeCast S64x1 (m ((c : Thread nD τ).loc main_arg1)) shapeCasts_S64_S64x1 := by
  unfold V
  simp only [hostOps0, StableHlo.TRef.reshape]
  after_results
  rfl

/-- The stacked rows as the region finds them: the argument with its rows split into the gate half and the up half. -/
theorem V_rows (c : Dev nD) :
    V m c main_call0_v0 = shapeCast S8x2x2048x1024 (m ((c : Thread nD τ).loc main_arg2)) shapeCasts_S8x4096x1024_S8x2x2048x1024 := by
  unfold V
  simp only [hostOps0, StableHlo.TRef.reshape]
  after_results
  rfl

/-- The stacked rows with the axis of 4096 split in two: half `p`, row `f` is row `2048 p + f`. -/
theorem split_rows {α : Type} (w : S8x4096x1024.Idx → α) (e : Fin 8) (p : Fin 2) (f : Fin 2048) (k : Fin 1024) :
    shapeCast S8x2x2048x1024 w shapeCasts_S8x4096x1024_S8x2x2048x1024 (ix4 e p f k) = w (ix3 e (Moe.halfRow p f) k) := by
  pointwise
  refine congrArg (fun q => w (ix3 e q k)) (Fin.ext ?_)
  dsimp only [Moe.halfRow]
  omega

/-- The block indices of the two windows that move, at every point. -/
theorem index_rows : ∀ t : Fin grid0.N, win0_2.index t 0 = t.val / 2 % 8 ∧ win0_2.index t 1 = 0 ∧ win0_2.index t 2 = t.val % 2 ∧ win0_2.index t 3 = 0 := by
  decide +kernel

theorem index_down : ∀ t : Fin grid0.N, win0_3.index t 0 = t.val / 2 % 8 ∧ win0_3.index t 1 = 0 ∧ win0_3.index t 2 = t.val % 2 := by
  decide +kernel

/-- Every point reads the whole token table. -/
theorem blk_table (c : Dev nD) (t : Fin cfg0.N) (r : Fin 64) : (iblk m c 0 t : Vec Ideal S64x1 .i32) (ix2 r 0) = argIdx m c r := by
  unfold iblk
  rw [View.read_apply]
  show V m c main_call0_v1 _ = _
  rw [V_table]
  have hj : ((cfg0.win 0).blk t).view.emb (ix2 r 0) = ix2 r 0 := by
    funext a
    apply Fin.ext
    match a with
    | ⟨0, _⟩ => show 0 * 64 + 1 * r.val = r.val; omega
    | ⟨1, _⟩ => rfl
  refine (congrArg (shapeCast S64x1 (m ((c : Thread nD τ).loc main_arg1)) shapeCasts_S64_S64x1) hj).trans ?_
  pointwise

/-- Every point reads all the activations. -/
theorem blk_x (c : Dev nD) (t : Fin cfg0.N) (r : Fin 64) (k : Fin 1024) : (iblk m c 1 t : Vec Ideal S64x1024 .f32) (ix2 r k) = argX m c r k := by
  unfold iblk
  rw [View.read_apply]
  show V m c main_arg0 _ = _
  rw [V_main_arg0]
  refine congrArg _ (funext fun a => Fin.ext ?_)
  match a with
  | ⟨0, _⟩ => show 0 * 64 + 1 * r.val = r.val; omega
  | ⟨1, _⟩ => show 0 * 1024 + 1 * k.val = k.val; omega

/-- A point reads the gate rows and the up rows of its tile of its expert. -/
theorem blk_rows (c : Dev nD) (t : Fin cfg0.N) (p : Fin 2) (f k : Fin 1024) :
    (iblk m c 2 t : Vec Ideal S1x2x1024x1024 .f32) (ix4 0 p f k)
      = argGU m c (Moe.expertAt t.val) (Moe.halfRow p (Moe.tileUnit (Moe.tileAt t.val) f)) k := by
  unfold iblk
  rw [View.read_apply]
  show V m c main_call0_v0 _ = _
  rw [V_rows]
  have hi := index_rows t
  have hj : ((cfg0.win 2).blk t).view.emb (ix4 0 p f k)
      = ix4 (Moe.expertAt t.val) p (Moe.tileUnit (Moe.tileAt t.val) f) k := by
    funext a
    apply Fin.ext
    match a with
    | ⟨0, _⟩ => show win0_2.index t 0 * 1 + 1 * 0 = t.val / 2 % 8; rw [hi.1]; omega
    | ⟨1, _⟩ => show win0_2.index t 1 * 2 + 1 * p.val = p.val; rw [hi.2.1]; omega
    | ⟨2, _⟩ => show win0_2.index t 2 * 1024 + 1 * f.val = 1024 * (t.val % 2) + f.val; rw [hi.2.2.1]; omega
    | ⟨3, _⟩ => show win0_2.index t 3 * 1024 + 1 * k.val = k.val; rw [hi.2.2.2]; omega
  refine (congrArg (shapeCast S8x2x2048x1024 (m ((c : Thread nD τ).loc main_arg2)) shapeCasts_S8x4096x1024_S8x2x2048x1024) hj).trans ?_
  exact split_rows _ _ _ _ _

/-- A point reads its tile's columns of its expert's down projection. -/
theorem blk_down (c : Dev nD) (t : Fin cfg0.N) (d f : Fin 1024) :
    (iblk m c 3 t : Vec Ideal S1x1024x1024 .f32) (ix3 0 d f)
      = argDn m c (Moe.expertAt t.val) d (Moe.tileUnit (Moe.tileAt t.val) f) := by
  unfold iblk
  rw [View.read_apply]
  show V m c main_arg3 _ = _
  rw [V_main_arg3]
  have hi := index_down t
  refine congrArg _ (funext fun a => Fin.ext ?_)
  match a with
  | ⟨0, _⟩ => show win0_3.index t 0 * 1 + 1 * 0 = t.val / 2 % 8; rw [hi.1]; omega
  | ⟨1, _⟩ => show win0_3.index t 1 * 1024 + 1 * d.val = d.val; rw [hi.2.1]; omega
  | ⟨2, _⟩ => show win0_3.index t 2 * 1024 + 1 * f.val = 1024 * (t.val % 2) + f.val; rw [hi.2.2]; omega

/-! ## The output block after each point, and the result array -/

/-- What point `n` adds to entry `(r, d)`: its tile of its expert, under the token's multiplier there. -/
abbrev added (c : Dev nD) (r : Fin 64) (d : Fin 1024) (n : Nat) : EReal :=
  Moe.tileOut (argX m c) (argGU m c) (argDn m c) (if argIdx m c r = BitVec.ofNat 32 (n / 2 % 8) then 1 else 0)
    (Moe.expertAt n) (Moe.tileAt n) r d

/-- The product a point computes from its blocks is what it adds. -/
theorem tile_blocks (c : Dev nD) (t : Fin cfg0.N) (r : Fin 64) (d : Fin 1024) :
    tile (grid0.coords t) (iblk m c 0 t) (iblk m c 1 t) (iblk m c 2 t) (iblk m c 3 t) (ix2 r d) = added m c r d t.val := by
  have hc : (grid0.coords t 0).val = t.val / 2 % 8 := Pipeline.Grid.coords_val t 0 (by decide) rfl
  refine (tile_apply _ _ _ _ _ r d).trans ?_
  unfold added Moe.tileOut
  refine Finset.sum_congr rfl fun f _ => ?_
  simp only [mult, hc, blk_table, blk_x, blk_rows, blk_down]

/-- After point `n` the output block holds, at every entry, what the points up to it add. -/
theorem outs_apply (c : Dev nD) (r : Fin 64) (d : Fin 1024) : ∀ (n : ℕ) (h : n < cfg0.N),
    (outsAt0 m c n h : Vec Ideal S64x1024 .f32) (ix2 r d) = ∑ s ∈ Finset.range (n + 1), added m c r d s
  | 0, h => by
    have e : outsAt0 m c 0 h = tile (grid0.coords ⟨0, h⟩) (iblk m c 0 ⟨0, h⟩) (iblk m c 1 ⟨0, h⟩) (iblk m c 2 ⟨0, h⟩) (iblk m c 3 ⟨0, h⟩) :=
      (outsAt0_A m c ⟨0, h⟩ rfl (by dsimp only; omega)).trans (out_first ..)
    rw [e, tile_blocks, Finset.sum_range_one]
  | n + 1, h => by
    have hN : cfg0.N = 16 := N_0
    have e : outsAt0 m c (n + 1) h = addf (outsAt0 m c n (Nat.lt_of_succ_lt h))
        (tile (grid0.coords ⟨n + 1, h⟩) (iblk m c 0 ⟨n + 1, h⟩) (iblk m c 1 ⟨n + 1, h⟩) (iblk m c 2 ⟨n + 1, h⟩) (iblk m c 3 ⟨n + 1, h⟩)) :=
      (outsAt0_B m c ⟨n + 1, h⟩ (by dsimp only; omega) (by dsimp only; omega)).trans (out_later ..)
    rw [e, Finset.sum_range_succ, ← outs_apply c r d n (Nat.lt_of_succ_lt h), ← tile_blocks m c ⟨n + 1, h⟩ r d]
    rfl

/-- The result: the output block after the last point. -/
abbrev result (c : Dev nD) : Buf (Elt Ideal) ((c : Thread nD τ).loc main_v0) :=
  outsAt0 m c 15 (by rw [show cfg0.N = 16 from N_0]; decide)

/-- The one write-back, after the last point, writes the result: its block is the whole array. -/
theorem flushed_eq (c : Dev nD) (t : Fin cfg0.N) (hf : (cfg0.win 4).flush t = true) :
    (dats m 0 c).flushed 4 t = ((cfg0.win 4).blk t).view.read (Elt Ideal) (result m c) := by
  have hN : cfg0.N = 16 := N_0
  have h15 : t.val = 15 := by have := (flush0_4 t).mp hf; have := t.isLt; omega
  obtain rfl : t = t0_15 := Fin.ext h15
  show (cfg0.win 4).cut (grid0.coords t0_15) ((dats m 0 c).after 4 t0_15) = _
  rw [after0_4]
  have hz' : (fun a => win0_4.index t0_15 a * main_v0.ty.shape.size a) = fun _ => 0 := funext fun a => by fin_cases a <;> decide
  exact (Memref.read_access_unit_zero (Elt Ideal) main_v0 hz' (fun a => by rw [congrFun hz' a]; simp) (result m c)).symm

/-- The result array ends holding the result. -/
theorem final_out (c : Dev nD) : (dats m 0 c).arrAt 4 cfg0.N = result m c :=
  (dats m 0 c).arrAt_eq_of_cover 4 (result m c) (flushed_eq m c) fun i =>
    ⟨t0_15, (flush0_4 t0_15).mpr rfl, by
      show i ∈ ((View.whole main_v0).slice (win0_4.rect t0_15)).set
      rw [View.set_slice_whole, Rect.mem_set_unit]
      intro a
      have h0 : (i 0 : Nat) < 64 := (i 0).isLt
      have h1 : (i 1 : Nat) < 1024 := (i 1).isLt
      match a with
      | ⟨0, _⟩ =>
        show win0_4.index t0_15 0 * win0_4.size 0 ≤ (i 0 : Nat)
          ∧ (i 0 : Nat) < win0_4.index t0_15 0 * win0_4.size 0 + win0_4.xsize (grid0.coords t0_15) 0
        rw [show win0_4.index t0_15 0 * win0_4.size 0 = 0 from by decide +kernel,
          show win0_4.xsize (grid0.coords t0_15) 0 = 64 from by decide +kernel]
        omega
      | ⟨1, _⟩ =>
        show win0_4.index t0_15 1 * win0_4.size 1 ≤ (i 1 : Nat)
          ∧ (i 1 : Nat) < win0_4.index t0_15 1 * win0_4.size 1 + win0_4.xsize (grid0.coords t0_15) 1
        rw [show win0_4.index t0_15 1 * win0_4.size 1 = 0 from by decide +kernel,
          show win0_4.xsize (grid0.coords t0_15) 1 = 1024 from by decide +kernel]
        omega⟩

/-- Entry `(r, d)` of the result: what all sixteen points add. -/
theorem result_apply (c : Dev nD) (r : Fin 64) (d : Fin 1024) :
    (result m c : Vec Ideal S64x1024 .f32) (ix2 r d) = ∑ s ∈ Finset.range 16, added m c r d s :=
  outs_apply m c r d 15 _

/-- Where token `r`'s expert is `e`, one of the eight, entry `(r, d)` of the result is expert `e`'s output for it. -/
theorem result_expert (c : Dev nD) (r : Fin 64) (d : Fin 1024) (e : Fin 8) (he : argIdx m c r = BitVec.ofNat 32 e.val) :
    (result m c : Vec Ideal S64x1024 .f32) (ix2 r d) = Moe.expertOut (argX m c) (argGU m c) (argDn m c) e r d := by
  have h : ∑ s ∈ Finset.range 16, added m c r d s = Moe.expertOut (argX m c) (argGU m c) (argDn m c) e r d := by
    rw [← Moe.sum_tiles]
    refine Finset.sum_congr rfl fun n _ => ?_
    have hw : (argIdx m c r = BitVec.ofNat 32 (n / 2 % 8)) = (e = Moe.expertAt n) := by
      rw [he]
      refine propext ⟨fun h => Fin.ext ?_, fun h => by rw [h]⟩
      have h' := congrArg BitVec.toNat h
      simp only [BitVec.toNat_ofNat] at h'
      show e.val = n / 2 % 8
      have := e.isLt
      omega
    unfold added
    simp only [hw]
  exact (result_apply m c r d).trans h

/-- The kernel's run: the result array ends holding the result, the arguments as they were. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_out m c), (h c).2⟩) (run_blocks m ρ)

end Cert.KernelIdeal.Value

end
-- ==== Proof.Take.lean ====
/-
  `stablehlo.gather` as `jnp.take(w, idx, axis=0)` prints it for a rank-3 array, read at an index.
-/
module

public import Idealize.ShloMosaic.Lib.Pointwise
public import Idealize.ShloMosaic.Lib.StableHlo.Predicate

@[expose] public section

noncomputable section

namespace Cert.Moe

open Idealize.ShloMosaic

/-- The dimension numbers of a take of whole `[A, B]` slices from `N` of them, by `n` indices. -/
abbrev sliceDims (N A B n : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Where row `r` of the indices holds the number `e` of a slice, slice `r` of the take is slice `e` of the array. -/
theorem take_slice {α : Type} {N A B n : Nat} (hN : N < 2 ^ 31)
    (wf : GatherDims.WF ⟨3, ![N, A, B]⟩ ⟨2, ![n, 1]⟩ ⟨3, ![n, A, B]⟩ [1, 2] [0] [] [0] [] 1 ![1, A, B])
    (w : (⟨3, ![N, A, B]⟩ : Shape).Idx → α) (idx : IVec ⟨2, ![n, 1]⟩ 32) (r : Fin n) (a : Fin A) (b : Fin B) (e : Fin N)
    (he : idx (ix2 r 0) = BitVec.ofNat 32 e.val) :
    Host.gather (sliceDims N A B n wf) w idx (ix3 r a b) = w (ix3 e a b) := by
  unfold Host.gather
  refine congrArg w (funext fun x => Fin.ext ?_)
  show (sliceDims N A B n wf).start (ix3 r a b) idx x + (sliceDims N A B n wf).batchCoord (ix3 r a b) x
      + (sliceDims N A B n wf).offCoord (ix3 r a b) x = _
  rw [GatherDims.batchCoord_eq_zero _ _ _ List.not_mem_nil, Nat.add_zero]
  match x with
  | ⟨0, _⟩ =>
    have hm : (0 : Fin 3) ∈ (sliceDims N A B n wf).startIndexMap := List.mem_singleton.mpr rfl
    show (sliceDims N A B n wf).start (ix3 r a b) idx 0 + (sliceDims N A B n wf).offCoord (ix3 r a b) 0 = e.val
    rw [GatherDims.offCoord_eq_zero _ _ _ (fun h => ((GatherDims.mem_sKept _ _).mp h).1 (List.mem_singleton.mpr rfl)), Nat.add_zero]
    unfold GatherDims.start
    rw [dif_pos hm]
    have hsi : (sliceDims N A B n wf).siIdx (ix3 r a b) ⟨List.idxOf (0 : Fin 3) (sliceDims N A B n wf).startIndexMap,
        List.idxOf_lt_length_iff.2 hm⟩ = ix2 r 0 := by
      funext y; refine Fin.ext ?_
      match y with
      | ⟨0, _⟩ => rfl
      | ⟨1, _⟩ => rfl
    have hlt := e.isLt
    rw [hsi, he, StableHlo.Predicate.toInt_ofNat_small _ (by omega)]
    show min ((e.val : Int)).toNat (N - 1) = e.val
    omega
  | ⟨1, _⟩ =>
    have hm : (1 : Fin 3) ∉ (sliceDims N A B n wf).startIndexMap := by simp
    have hk : (1 : Fin 3) ∈ (sliceDims N A B n wf).sKept := (GatherDims.mem_sKept _ _).2 ⟨by simp, List.not_mem_nil⟩
    show (sliceDims N A B n wf).start (ix3 r a b) idx 1 + (sliceDims N A B n wf).offCoord (ix3 r a b) 1 = a.val
    unfold GatherDims.start GatherDims.offCoord
    rw [dif_neg hm, dif_pos hk, Nat.zero_add]
    rfl
  | ⟨2, _⟩ =>
    have hm : (2 : Fin 3) ∉ (sliceDims N A B n wf).startIndexMap := by simp
    have hk : (2 : Fin 3) ∈ (sliceDims N A B n wf).sKept := (GatherDims.mem_sKept _ _).2 ⟨by simp, List.not_mem_nil⟩
    show (sliceDims N A B n wf).start (ix3 r a b) idx 2 + (sliceDims N A B n wf).offCoord (ix3 r a b) 2 = b.val
    unfold GatherDims.start GatherDims.offCoord
    rw [dif_neg hm, dif_pos hk, Nat.zero_add]
    rfl

end Cert.Moe

end
-- ==== Proof.Reference.lean ====
/-
  What the reference computes, entry by entry: for a token whose expert is one of the eight, that expert's output.

  The reference takes each token's slices of the two weight arrays with `jnp.take`, which counts a negative index from
  the end and fills the slice of an index out of range with a constant; an index from 0 to 7 meets neither.
-/
module

public import proofs.«01_k».proof.Proof.Gen.ReferenceIdeal.Run
public import proofs.«01_k».proof.Proof.Spec
public import proofs.«01_k».proof.Proof.Take

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-! ## The two takes -/

/-- The indices as a column, negative ones counted from the end. -/
def column (idx : IVec S64 32) : IVec S64x1 32 :=
  broadcastInDim S64x1 ![0] bcast_S64_S64x1_0
    (select (cmpi .slt idx (broadcastInDim S64 ![] bcast_S_S64 (constantI S_ 32 0#32)))
      (addi idx (broadcastInDim S64 ![] bcast_S_S64 (constantI S_ 32 8#32))) idx)

/-- Which of the indices are in range. -/
def inRange (idx : IVec S64 32) : IVec S64 1 :=
  Host.reduce IntOp.andi
    (andi (cmpi .sge (column idx) (broadcastInDim S64x1 ![] bcast_S_S64x1 (constantI S_ 32 0#32)))
      (cmpi .sle (column idx) (broadcastInDim S64x1 ![0, 1] bcast_S1x1_S64x1_0_1 (broadcastInDim S1x1 ![1] bcast_S1_S1x1_1 (constantI S1 32 7#32)))))
    (constantI S_ 1 1#1) reducesTo_S64x1_S64_d1 h_S_

/-- Each token's gate and up rows. -/
def rowsOf (w : FVec Ideal S8x4096x1024 .f32) (idx : IVec S64 32) : FVec Ideal S64x4096x1024 .f32 :=
  select (broadcastInDim S64x4096x1024 ![0] bcast_S64_S64x4096x1024_0 (inRange idx))
    (Host.gather gather_S8x4096x1024_S64x1_S64x4096x1024_12_0_n_n_0_1_140961024 w (column idx))
    (broadcastInDim S64x4096x1024 ![] bcast_S_S64x4096x1024 (constant S_ .f32 0x7FC00000#32))

/-- Each token's down projection. -/
def downOf (w : FVec Ideal S8x1024x2048 .f32) (idx : IVec S64 32) : FVec Ideal S64x1024x2048 .f32 :=
  select (broadcastInDim S64x1024x2048 ![0] bcast_S64_S64x1024x2048_0 (inRange idx))
    (Host.gather gather_S8x1024x2048_S64x1_S64x1024x2048_12_0_n_n_0_1_110242048 w (column idx))
    (broadcastInDim S64x1024x2048 ![] bcast_S_S64x1024x2048 (constant S_ .f32 0x7FC00000#32))

/-- The column holds an index from 0 to 7 as it is. -/
theorem column_apply (idx : IVec S64 32) (r : Fin 64) (e : Fin 8) (he : idx (ix1 r) = BitVec.ofNat 32 e.val) :
    column idx (ix2 r 0) = BitVec.ofNat 32 e.val := by
  pointwise [column]
  rw [he]
  clear he
  revert e
  decide +kernel

/-- An index from 0 to 7 is in range. -/
theorem inRange_apply (idx : IVec S64 32) (r : Fin 64) (e : Fin 8) (he : idx (ix1 r) = BitVec.ofNat 32 e.val) :
    inRange idx (ix1 r) = 1#1 := by
  pointwise [inRange]
  rw [show (Finset.univ : Finset (Fin 1)) = {0} from rfl, Finset.fold_singleton, column_apply idx r e he]
  clear he
  revert e
  decide +kernel

/-- Token `r`'s gate and up rows are its expert's. -/
theorem rowsOf_apply (w : FVec Ideal S8x4096x1024 .f32) (idx : IVec S64 32) (r : Fin 64) (e : Fin 8)
    (he : idx (ix1 r) = BitVec.ofNat 32 e.val) (f : Fin 4096) (k : Fin 1024) :
    rowsOf w idx (ix3 r f k) = w (ix3 e f k) := by
  pointwise [rowsOf]
  rw [inRange_apply idx r e he]
  exact Moe.take_slice (by decide) _ w (column idx) r f k e (column_apply idx r e he)

/-- Token `r`'s down projection is its expert's. -/
theorem downOf_apply (w : FVec Ideal S8x1024x2048 .f32) (idx : IVec S64 32) (r : Fin 64) (e : Fin 8)
    (he : idx (ix1 r) = BitVec.ofNat 32 e.val) (d : Fin 1024) (f : Fin 2048) :
    downOf w idx (ix3 r d f) = w (ix3 e d f) := by
  pointwise [downOf]
  rw [inRange_apply idx r e he]
  exact Moe.take_slice (by decide) _ w (column idx) r d f e (column_apply idx r e he)

/-! ## The layer -/

/-- The gate and up pre-activations, side by side. -/
def pre (x : FVec Ideal S64x1024 .f32) (w : FVec Ideal S64x4096x1024 .f32) : FVec Ideal S64x4096 .f32 :=
  Host.dotGeneral dot_S64x1024_S64x4096x1024_S64x4096_1_2_n_1_0_0 none x w

/-- The layer on each token's own weights. -/
def layer (x : FVec Ideal S64x1024 .f32) (w : FVec Ideal S64x4096x1024 .f32) (wd : FVec Ideal S64x1024x2048 .f32) : FVec Ideal S64x1024 .f32 :=
  Host.dotGeneral dot_S64x2048_S64x1024x2048_S64x1024_1_2_n_1_0_0 none
    (mulf (mulf (extractStridedSlice S64x2048 ![0, 0] (pre x w) slices_S64x4096_S64x2048_0_0)
      (Host.divf (broadcastInDim S64x2048 ![] bcast_S_S64x2048 (constant S_ .f32 0x3F800000#32))
        (addf (broadcastInDim S64x2048 ![] bcast_S_S64x2048 (constant S_ .f32 0x3F800000#32))
          (Host.exp (Host.negf (extractStridedSlice S64x2048 ![0, 0] (pre x w) slices_S64x4096_S64x2048_0_0))))))
      (extractStridedSlice S64x2048 ![0, 2048] (pre x w) slices_S64x4096_S64x2048_0_2048)) wd

/-- The layer at row `r`, column `d`: the sum over the 2048 hidden units of what each contributes, the SiLU's quotient
    `1 / (1 + exp (-z))` being `logistic z`. -/
theorem layer_apply (x : FVec Ideal S64x1024 .f32) (w : FVec Ideal S64x4096x1024 .f32) (wd : FVec Ideal S64x1024x2048 .f32) (r : Fin 64)
    (d : Fin 1024) :
    layer x w wd (ix2 r d) = ∑ f : Fin 2048, Moe.unit (fun k => x (ix2 r k)) (fun k => w (ix3 r (Moe.halfRow 0 f) k))
      (fun k => w (ix3 r (Moe.halfRow 1 f) k)) (wd (ix3 r d f)) := by
  pointwise [layer, pre]
  refine Finset.sum_congr rfl fun f _ => ?_
  have h0 : Moe.halfRow 0 f = ⟨f.val, by omega⟩ := Fin.ext (by show 2048 * 0 + f.val = f.val; omega)
  have h1 : Moe.halfRow 1 f = ⟨2048 + f.val, by omega⟩ := Fin.ext (by show 2048 * 1 + f.val = 2048 + f.val; omega)
  rw [h0, h1]
  rfl

/-- The reference's result is the layer on the taken weights. -/
theorem res_eq (m : (ℓ : Loc nD τ sig) → Buf (Elt Ideal) ℓ) (c : Dev nD) :
    res_out0 m c = layer (m ((c.tc : Thread nD τ).loc main_arg0))
      (rowsOf (m ((c.tc : Thread nD τ).loc main_arg2)) (m ((c.tc : Thread nD τ).loc main_arg1)))
      (downOf (m ((c.tc : Thread nD τ).loc main_arg3)) (m ((c.tc : Thread nD τ).loc main_arg1))) := by
  unfold res_out0 res_main_v7
  rfl

/-- Where token `r`'s expert is `e`, one of the eight, entry `(r, d)` of the reference's result is expert `e`'s output for it. -/
theorem res_expert (m : (ℓ : Loc nD τ sig) → Buf (Elt Ideal) ℓ) (c : Dev nD) (r : Fin 64) (d : Fin 1024) (e : Fin 8)
    (he : (m ((c.tc : Thread nD τ).loc main_arg1) : Vec Ideal S64 .i32) (ix1 r) = BitVec.ofNat 32 e.val) :
    (res_out0 m c : Vec Ideal S64x1024 .f32) (ix2 r d)
      = Moe.expertOut (fun r k => (m ((c.tc : Thread nD τ).loc main_arg0) : Vec Ideal S64x1024 .f32) (ix2 r k))
          (fun e f k => (m ((c.tc : Thread nD τ).loc main_arg2) : Vec Ideal S8x4096x1024 .f32) (ix3 e f k))
          (fun e d f => (m ((c.tc : Thread nD τ).loc main_arg3) : Vec Ideal S8x1024x2048 .f32) (ix3 e d f)) e r d := by
  rw [res_eq]
  refine (layer_apply _ _ _ r d).trans ?_
  unfold Moe.expertOut
  refine Finset.sum_congr rfl fun f _ => ?_
  simp only [rowsOf_apply _ _ r e he, downOf_apply _ _ r e he]

end Cert.ReferenceIdeal.Value

end
-- ==== Proof.Equation.lean ====
/-
  The equation: where every token's expert is one of the eight, the kernel's result array and the reference's are
  equal over the extended reals.
-/
module

public import proofs.«01_k».proof.Defs
public import proofs.«01_k».proof.Proof.Array
public import proofs.«01_k».proof.Proof.Reference
public import Idealize.ShloMosaic.Lib.Quiescent

@[expose] public section

set_option maxRecDepth 16384

noncomputable section

namespace Cert.Moe

open Idealize.ShloMosaic Idealize.ShloMosaic.TcCoe Idealize.SL.Sem

/-- The precondition's own side condition: a scalar can be broadcast along the token axis. -/
theorem pre_facts : Cert.Pre_experts_exist.Facts := ⟨by decide⟩

/-- A word that is at least 0 and below 8, compared as signed words, is the word of a number below 8. -/
theorem word_below_eight (w : BitVec 32) (h : IntOp.andi (IntOp.cmpi .sge w 0#32) (IntOp.cmpi .slt w 8#32) = 1#1) :
    ∃ e : Fin 8, w = BitVec.ofNat 32 e.val := by
  have h0 : (0#32).sle w = true := by
    cases h0 : (0#32).sle w
    · exfalso; revert h; simp [IntOp.andi, IntOp.cmpi, h0]
    · rfl
  have h1 : w.slt 8#32 = true := by
    cases h1 : w.slt 8#32
    · exfalso; revert h; simp [IntOp.andi, IntOp.cmpi, h1]
    · rfl
  have i0 : (0 : Int) ≤ w.toInt := by simpa [BitVec.sle] using h0
  have i1 : w.toInt < 8 := by simpa [BitVec.slt] using h1
  have hn : w.toNat < 8 := by
    rw [BitVec.toInt_eq_toNat_cond] at i0 i1
    have := w.isLt
    split at i0 <;> omega
  exact ⟨⟨w.toNat, hn⟩, by simp⟩

/-- What the precondition says of a token: its expert is the word of a number below 8. -/
theorem expert_of_pre (m : (ℓ : Loc Cert.KernelIdeal.nD Cert.KernelIdeal.τ Cert.KernelIdeal.sig) → Buf (Elt Ideal) ℓ)
    (h : Cert.Pre_KernelIdeal_experts_exist (hPre_experts_exist := pre_facts) m) (c : Dev Cert.KernelIdeal.nD) (r : Fin 64) :
    ∃ e : Fin 8, Cert.KernelIdeal.Value.argIdx m c r = BitVec.ofNat 32 e.val := by
  have hr := congrFun (h c) (ix1 r)
  pointwise [Cert.Pre_experts_exist.fn] at hr
  exact word_below_eight _ hr

/-- From arguments that agree and satisfy the precondition, the reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_experts_exist (hPre_experts_exist := pre_facts) m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_out0 m' c = Cert.KernelIdeal.Value.result m c := by
  refine funext fun j => ?_
  obtain ⟨r, d, rfl⟩ : ∃ (r : Fin 64) (d : Fin 1024), j = ix2 r d := ⟨j 0, j 1, eq_ix2 j⟩
  obtain ⟨e, he⟩ := expert_of_pre m h c r
  refine (Cert.ReferenceIdeal.Value.res_expert m' c r d e ((congrFun h1 (ix1 r)).trans he)).trans ?_
  rw [h0, h2, h3]
  exact (Cert.KernelIdeal.Value.result_expert m c r d e he).symm

/-- The reference's frame: it runs, leaves its arguments as they were, and has no semaphores to leave raised. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference, from arguments that agree and satisfy the precondition, end with equal results. -/
theorem algebraic : Cert.algebraic_KernelIdeal_ReferenceIdeal_pre_experts_exist (hKernelIdeal := Cert.KernelIdeal.Gen.facts)
    (hReferenceIdeal := Cert.ReferenceIdeal.Gen.facts) (hPre_experts_exist := pre_facts) := fun m ρ m' ρ' hpre hagree =>
  ⟨Cert.KernelIdeal.Value.result m, Cert.KernelIdeal.Value.run m ρ,
    (θ_run Cert.ReferenceIdeal.defs _ _).mono
      (fun r h c => ⟨(h c).1.trans (results_eq m m' hpre c (hagree c).1 (hagree c).2.1 (hagree c).2.2.1 (hagree c).2.2.2), (h c).2⟩)
      (Cert.ReferenceIdeal.Value.run (F := Ideal) m' ρ')⟩

end Cert.Moe

end
-- ==== Proof.lean ====
/-
  The claims about the kernel, its idealization and the reference, put together: the two kernel programs and the
  reference run and leave their arguments and the semaphores as they were, the idealization preserves the kernel,
  and, where every token's expert is one of the eight, the kernel's result is the reference's.
-/
module

public import proofs.«01_k».proof.Defs
public import proofs.«01_k».proof.Proof.Gen.Kernel.Frame
public import proofs.«01_k».proof.Proof.Gen.KernelIdeal.Frame
public import proofs.«01_k».proof.Proof.Equation
public import Idealize.ShloMosaic.Adequacy
public import Idealize.ShloMosaic.Init

@[expose] public section

noncomputable section

namespace Cert.Proof

open Idealize.ShloMosaic Idealize.SL.Sem

/-- Everything claimed. -/
theorem claim : Cert.Claim :=
  ⟨Cert.Kernel.Gen.facts, Cert.KernelIdeal.Gen.facts, Cert.ReferenceIdeal.Gen.facts, Cert.Moe.pre_facts,
    fun m ρ _ => Cert.Kernel.Gen.frame m ρ,
    fun m ρ _ => Cert.KernelIdeal.Gen.frame m ρ,
    fun m ρ _ => Cert.KernelIdeal.Gen.frame m ρ,
    Cert.Moe.frame_reference,
    fun m ρ _ => Cert.Moe.frame_reference m ρ trivial,
    trivial,
    Cert.Moe.algebraic⟩

end Cert.Proof

end
